-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x768 : Shape := ⟨3, ![2, 2048, 768]⟩
abbrev S768x768 : Shape := ⟨2, ![768, 768]⟩
abbrev S768 : Shape := ⟨1, ![768]⟩
abbrev S768x1536 : Shape := ⟨2, ![768, 1536]⟩
abbrev S1x768 : Shape := ⟨2, ![1, 768]⟩
abbrev S1x256x768 : Shape := ⟨3, ![1, 256, 768]⟩
abbrev S64x768 : Shape := ⟨2, ![64, 768]⟩
abbrev S256x768 : Shape := ⟨2, ![256, 768]⟩
abbrev S8x32x768 : Shape := ⟨3, ![8, 32, 768]⟩
abbrev S8x1x768 : Shape := ⟨3, ![8, 1, 768]⟩
abbrev S8x768 : Shape := ⟨2, ![8, 768]⟩
abbrev S256x256 : Shape := ⟨2, ![256, 256]⟩
abbrev S256x64 : Shape := ⟨2, ![256, 64]⟩

abbrev nBuf : Space → Nat
  | .hbm => 14
  | .vmem => 19
  | .smem => 0
  | _ => 0

abbrev bufTy : (tb : Table) → Fin (tcTables nBuf tb) → BufTy
  | .hbm, ⟨0, _⟩ => ⟨S2x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x1536, .f32⟩
  | .hbm, ⟨8, _⟩ => ⟨S768, .f32⟩
  | .hbm, ⟨9, _⟩ => ⟨S1x768, .f32⟩
  | .hbm, ⟨10, _⟩ => ⟨S1x768, .f32⟩
  | .hbm, ⟨11, _⟩ => ⟨S1x768, .f32⟩
  | .hbm, ⟨12, _⟩ => ⟨S1x768, .f32⟩
  | .hbm, ⟨13, _⟩ => ⟨S2x2048x768, .f32⟩
  | .local _ .vmem, ⟨0, _⟩ => ⟨S1x256x768, .f32⟩
  | .local _ .vmem, ⟨1, _⟩ => ⟨S1x256x768, .f32⟩
  | .local _ .vmem, ⟨2, _⟩ => ⟨S768x768, .f32⟩
  | .local _ .vmem, ⟨3, _⟩ => ⟨S768x768, .f32⟩
  | .local _ .vmem, ⟨4, _⟩ => ⟨S768x768, .f32⟩
  | .local _ .vmem, ⟨5, _⟩ => ⟨S768x1536, .f32⟩
  | .local _ .vmem, ⟨6, _⟩ => ⟨S1x768, .f32⟩
  | .local _ .vmem, ⟨7, _⟩ => ⟨S1x768, .f32⟩
  | .local _ .vmem, ⟨8, _⟩ => ⟨S1x768, .f32⟩
  | .local _ .vmem, ⟨9, _⟩ => ⟨S1x768, .f32⟩
  | .local _ .vmem, ⟨10, _⟩ => ⟨S1x256x768, .f32⟩
  | .local _ .vmem, ⟨11, _⟩ => ⟨S1x256x768, .f32⟩
  | .local _ .vmem, ⟨12, _⟩ => ⟨S768x768, .bf16⟩
  | .local _ .vmem, ⟨13, _⟩ => ⟨S768x768, .bf16⟩
  | .local _ .vmem, ⟨14, _⟩ => ⟨S768x768, .bf16⟩
  | .local _ .vmem, ⟨15, _⟩ => ⟨S768x768, .bf16⟩
  | .local _ .vmem, ⟨16, _⟩ => ⟨S768x768, .bf16⟩
  | .local _ .vmem, ⟨17, _⟩ => ⟨S64x768, .f32⟩
  | .local _ .vmem, ⟨18, _⟩ => ⟨S64x768, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![2, 8], ![false, false]⟩

def k0_off1 (i : grid0.Coords) : Fin 2 → Nat :=
  let arg1 : BitVec 32 := BitVec.ofNat 32 (i 1).val
  let c8_i32 : BitVec 32 := 8#32
  let v35 : BitVec 32 := Scalar.muli arg1 c8_i32
  let v36 : Index := Scalar.indexCast v35
  let c0_20 : Index := 0#32
  ![v36.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S2x2048x768 : Shape := ⟨3, ![2, 2048, 768]⟩
abbrev S768x768 : Shape := ⟨2, ![768, 768]⟩
abbrev S768 : Shape := ⟨1, ![768]⟩
abbrev S768x1536 : Shape := ⟨2, ![768, 1536]⟩
abbrev S1x1x768 : Shape := ⟨3, ![1, 1, 768]⟩
abbrev S2048x2048 : Shape := ⟨2, ![2048, 2048]⟩
abbrev S_ : Shape := ⟨0, ![]⟩
abbrev S2x2048x2048 : Shape := ⟨3, ![2, 2048, 2048]⟩
abbrev S1x2048x2048 : Shape := ⟨3, ![1, 2048, 2048]⟩
abbrev S2x2048x1536 : Shape := ⟨3, ![2, 2048, 1536]⟩
abbrev S1536x768 : Shape := ⟨2, ![1536, 768]⟩

abbrev nBuf : Space → Nat
  | .hbm => 114
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x1536, .f32⟩
  | .hbm, ⟨8, _⟩ => ⟨S768, .f32⟩
  | .hbm, ⟨9, _⟩ => ⟨S768x768, .f32⟩
  | .hbm, ⟨10, _⟩ => ⟨S2x2048x768, .f32⟩
  | .hbm, ⟨11, _⟩ => ⟨S1x1x768, .f32⟩
  | .hbm, ⟨12, _⟩ => ⟨S2x2048x768, .f32⟩
  | .hbm, ⟨13, _⟩ => ⟨S2x2048x768, .f32⟩
  | .hbm, ⟨14, _⟩ => ⟨S768x768, .f32⟩
  | .hbm, ⟨15, _⟩ => ⟨S2x2048x768, .f32⟩
  | .hbm, ⟨16, _⟩ => ⟨S1x1x768, .f32⟩
  | .hbm, ⟨17, _⟩ => ⟨S2x2048x768, .f32⟩
  | .hbm, ⟨18, _⟩ => ⟨S2x2048x768, .f32⟩
  | .hbm, ⟨19, _⟩ => ⟨S768x768, .f32⟩
  | .hbm, ⟨20, _⟩ => ⟨S2x2048x768, .f32⟩
  | .hbm, ⟨21, _⟩ => ⟨S1x1x768, .f32⟩
  | .hbm, ⟨22, _⟩ => ⟨S2x2048x768, .f32⟩
  | .hbm, ⟨23, _⟩ => ⟨S2x2048x768, .f32⟩
  | .hbm, ⟨24, _⟩ => ⟨S2048x2048, .i32⟩
  | .hbm, ⟨25, _⟩ => ⟨S2048x2048, .i32⟩
  | .hbm, ⟨26, _⟩ => ⟨S_, .i32⟩
  | .hbm, ⟨27, _⟩ => ⟨S_, .i32⟩
  | .hbm, ⟨28, _⟩ => ⟨S2048x2048, .i32⟩
  | .hbm, ⟨29, _⟩ => ⟨S2048x2048, .i32⟩
  | .hbm, ⟨30, _⟩ => ⟨S2048x2048, .i32⟩
  | .hbm, ⟨31, _⟩ => ⟨S_, .i32⟩
  | .hbm, ⟨32, _⟩ => ⟨S2048x2048, .i32⟩
  | .hbm, ⟨33, _⟩ => ⟨S2048x2048, .i1⟩
  | .hbm, ⟨34, _⟩ => ⟨S2048x2048, .i32⟩
  | .hbm, ⟨35, _⟩ => ⟨S2048x2048, .i32⟩
  | .hbm, ⟨36, _⟩ => ⟨S_, .i32⟩
  | .hbm, ⟨37, _⟩ => ⟨S2048x2048, .i32⟩
  | .hbm, ⟨38, _⟩ => ⟨S2048x2048, .i1⟩
  | .hbm, ⟨39, _⟩ => ⟨S2048x2048, .i1⟩
  | .hbm, ⟨40, _⟩ => ⟨S_, .i32⟩
  | .hbm, ⟨41, _⟩ => ⟨S2048x2048, .i32⟩
  | .hbm, ⟨42, _⟩ => ⟨S2048x2048, .i32⟩
  | .hbm, ⟨43, _⟩ => ⟨S2048x2048, .i32⟩
  | .hbm, ⟨44, _⟩ => ⟨S_, .i32⟩
  | .hbm, ⟨45, _⟩ => ⟨S_, .i32⟩
  | .hbm, ⟨46, _⟩ => ⟨S2048x2048, .i32⟩
  | .hbm, ⟨47, _⟩ => ⟨S2048x2048, .i32⟩
  | .hbm, ⟨48, _⟩ => ⟨S2048x2048, .i32⟩
  | .hbm, ⟨49, _⟩ => ⟨S_, .i32⟩
  | .hbm, ⟨50, _⟩ => ⟨S2048x2048, .i32⟩
  | .hbm, ⟨51, _⟩ => ⟨S2048x2048, .i1⟩
  | .hbm, ⟨52, _⟩ => ⟨S2048x2048, .i32⟩
  | .hbm, ⟨53, _⟩ => ⟨S2048x2048, .i32⟩
  | .hbm, ⟨54, _⟩ => ⟨S_, .i32⟩
  | .hbm, ⟨55, _⟩ => ⟨S2048x2048, .i32⟩
  | .hbm, ⟨56, _⟩ => ⟨S2048x2048, .i1⟩
  | .hbm, ⟨57, _⟩ => ⟨S2048x2048, .i1⟩
  | .hbm, ⟨58, _⟩ => ⟨S_, .i32⟩
  | .hbm, ⟨59, _⟩ => ⟨S2048x2048, .i32⟩
  | .hbm, ⟨60, _⟩ => ⟨S2048x2048, .i32⟩
  | .hbm, ⟨61, _⟩ => ⟨S2048x2048, .i32⟩
  | .hbm, ⟨62, _⟩ => ⟨S2048x2048, .i1⟩
  | .hbm, ⟨63, _⟩ => ⟨S2048x2048, .i1⟩
  | .hbm, ⟨64, _⟩ => ⟨S2048x2048, .i1⟩
  | .hbm, ⟨65, _⟩ => ⟨S2x2048x2048, .f32⟩
  | .hbm, ⟨66, _⟩ => ⟨S1x2048x2048, .i1⟩
  | .hbm, ⟨67, _⟩ => ⟨S_, .f32⟩
  | .hbm, ⟨68, _⟩ => ⟨S_, .f32⟩
  | .hbm, ⟨69, _⟩ => ⟨S2x2048x2048, .i1⟩
  | .hbm, ⟨70, _⟩ => ⟨S2x2048x2048, .f32⟩
  | .hbm, ⟨71, _⟩ => ⟨S2x2048x2048, .f32⟩
  | .hbm, ⟨72, _⟩ => ⟨S2x2048x768, .f32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i1⟩
  | .hbm, ⟨77, _⟩ => ⟨S_, .i32⟩
  | .hbm, ⟨78, _⟩ => ⟨S_, .i32⟩
  | .hbm, ⟨79, _⟩ => ⟨S2048x2048, .i32⟩
  | .hbm, ⟨80, _⟩ => ⟨S2048x2048, .i32⟩
  | .hbm, ⟨81, _⟩ => ⟨S_, .i32⟩
  | .hbm, ⟨82, _⟩ => ⟨S2048x2048, .i32⟩
  | .hbm, ⟨83, _⟩ => ⟨S2048x2048, .i1⟩
  | .hbm, ⟨84, _⟩ => ⟨S_, .i32⟩
  | .hbm, ⟨85, _⟩ => ⟨S2048x2048, .i32⟩
  | .hbm, ⟨86, _⟩ => ⟨S2048x2048, .i1⟩
  | .hbm, ⟨87, _⟩ => ⟨S_, .i32⟩
  | .hbm, ⟨88, _⟩ => ⟨S_, .i1⟩
  | .hbm, ⟨89, _⟩ => ⟨S2048x2048, .i1⟩
  | .hbm, ⟨90, _⟩ => ⟨S2048x2048, .i1⟩
  | .hbm, ⟨91, _⟩ => ⟨S2048x2048, .i1⟩
  | .hbm, ⟨92, _⟩ => ⟨S2048x2048, .i32⟩
  | .hbm, ⟨93, _⟩ => ⟨S2048x2048, .i32⟩
  | .hbm, ⟨94, _⟩ => ⟨S2048x2048, .i32⟩
  | .hbm, ⟨95, _⟩ => ⟨S_, .i32⟩
  | .hbm, ⟨96, _⟩ => ⟨S2048x2048, .i32⟩
  | .hbm, ⟨97, _⟩ => ⟨S2048x2048, .i1⟩
  | .hbm, ⟨98, _⟩ => ⟨S2048x2048, .i1⟩
  | .hbm, ⟨99, _⟩ => ⟨S2048x2048, .i1⟩
  | .hbm, ⟨100, _⟩ => ⟨S2x2048x2048, .f32⟩
  | .hbm, ⟨101, _⟩ => ⟨S1x2048x2048, .i1⟩
  | .hbm, ⟨102, _⟩ => ⟨S_, .f32⟩
  | .hbm, ⟨103, _⟩ => ⟨S_, .f32⟩
  | .hbm, ⟨104, _⟩ => ⟨S2x2048x2048, .i1⟩
  | .hbm, ⟨105, _⟩ => ⟨S2x2048x2048, .f32⟩
  | .hbm, ⟨106, _⟩ => ⟨S2x2048x2048, .f32⟩
  | .hbm, ⟨107, _⟩ => ⟨S2x2048x768, .f32⟩
  | .hbm, ⟨108, _⟩ => ⟨S2x2048x1536, .f32⟩
  | .hbm, ⟨109, _⟩ => ⟨S1536x768, .f32⟩
  | .hbm, ⟨110, _⟩ => ⟨S2x2048x768, .f32⟩
  | .hbm, ⟨111, _⟩ => ⟨S1x1x768, .f32⟩
  | .hbm, ⟨112, _⟩ => ⟨S2x2048x768, .f32⟩
  | .hbm, ⟨113, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v17 : Ref sig .tc := ⟨.hbm, 43, rfl⟩
abbrev main_c_0 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_c : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_0 : Ref sig .tc := ⟨.hbm, 58, rfl⟩
abbrev main_call1_v12 : Ref sig .tc := ⟨.hbm, 59, rfl⟩
abbrev main_call1_v13 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_cst : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v24 : Ref sig .tc := ⟨.hbm, 71, rfl⟩
abbrev main_v25 : Ref sig .tc := ⟨.hbm, 72, rfl⟩
abbrev main_c_1 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v26 : Ref sig .tc := ⟨.hbm, 94, rfl⟩
abbrev main_c_2 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_v32 : Ref sig .tc := ⟨.hbm, 101, rfl⟩
abbrev main_cst_3 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_v39 : Ref sig .tc := ⟨.hbm, 112, rfl⟩
abbrev main_v40 : Ref sig .tc := ⟨.hbm, 113, rfl⟩

abbrev nD : Nat := 1
abbrev τ : Topo := Topo.v7x

variable {F : FTy → Type} [FloatOps F]
-- ==== Proof.Spec.lean ====
/- The mathematics that both programs compute, on plain indices and over the extended reals, with nothing of either
   program in it: three affine projections of one sequence, two masked heads, and the output projection of the two heads
   side by side. Then the two rewritings that let a block of 256 rows see only its own rows (first head) and only every
   32nd row (second head). Only that a sum may be taken in any order and that zero times anything is zero is used, so no
   value has to be finite. -/
module

public import Idealize.ShloMosaic.Lib.Pointwise

@[expose] public section

noncomputable section

namespace Cert.Attn

/-- Row `t`, feature `d` of `x · Wᵀ + b`. -/
def proj (X : Fin 2048 → Fin 768 → EReal) (W : Fin 768 → Fin 768 → EReal) (b : Fin 768 → EReal)
    (t : Fin 2048) (d : Fin 768) : EReal :=
  (∑ e, X t e * W d e) + b d

/-- The score of row `t` against row `u`. -/
def score (K Q : Fin 2048 → Fin 768 → EReal) (t u : Fin 2048) : EReal := ∑ e, K t e * Q u e

/-- The first head: row `t` reads the rows of its own group of 32, up to itself. -/
def head1 (K Q V : Fin 2048 → Fin 768 → EReal) (t : Fin 2048) (d : Fin 768) : EReal :=
  ∑ u : Fin 2048, (if t.val / 32 = u.val / 32 ∧ u.val ≤ t.val then score K Q t u else 0) * V u d

/-- The second head: row `t` reads the first row of every group of 32, up to itself. -/
def head2 (K Q V : Fin 2048 → Fin 768 → EReal) (t : Fin 2048) (d : Fin 768) : EReal :=
  ∑ u : Fin 2048, (if u.val % 32 = 0 ∧ u.val ≤ t.val then score K Q t u else 0) * V u d

/-- The output projection: the first 768 columns of `Wu` meet the first head, the last 768 the second. -/
def outAt (h1 h2 : Fin 768 → EReal) (W1 W2 : Fin 768 → EReal) (b : EReal) : EReal :=
  ((∑ d, h1 d * W1 d) + ∑ d, h2 d * W2 d) + b

/-- Row `r` of block `i`, as a row of the sequence. -/
abbrev blkRow (i : Fin 8) (r : Fin 256) : Fin 2048 := ⟨256 * i.val + r.val, by omega⟩

/-- The first row of group `g`. -/
abbrev grpRow (g : Fin 64) : Fin 2048 := ⟨32 * g.val, by omega⟩

/-- The first head at a row of block `i` is a sum over the rows of that block. -/
theorem head1_blk (K Q V : Fin 2048 → Fin 768 → EReal) (i : Fin 8) (r : Fin 256) (d : Fin 768) :
    head1 K Q V (blkRow i r) d
      = ∑ c : Fin 256, (if r.val / 32 = c.val / 32 ∧ c.val ≤ r.val then score K Q (blkRow i r) (blkRow i c) else 0)
          * V (blkRow i c) d := by
  unfold head1
  symm
  refine Fintype.sum_of_injective (blkRow i) (fun a b h => ?_) _ _ (fun u hu => ?_) (fun c => ?_)
  · have := congrArg Fin.val h
    simp only at this
    exact Fin.ext (by omega)
  · rw [if_neg, zero_mul]
    rintro ⟨h1, h2⟩
    simp only at h1 h2
    exact hu ⟨⟨u.val - 256 * i.val, by omega⟩, Fin.ext (by simp only; omega)⟩
  · have e : (r.val / 32 = c.val / 32 ∧ c.val ≤ r.val)
        ↔ ((blkRow i r).val / 32 = (blkRow i c).val / 32 ∧ (blkRow i c).val ≤ (blkRow i r).val) := by
      simp only; omega
    exact congrArg (· * _) (if_congr e rfl rfl)

/-- The second head is a sum over the groups. -/
theorem head2_grp (K Q V : Fin 2048 → Fin 768 → EReal) (t : Fin 2048) (d : Fin 768) :
    head2 K Q V t d
      = ∑ g : Fin 64, (if 32 * g.val ≤ t.val then score K Q t (grpRow g) else 0) * V (grpRow g) d := by
  unfold head2
  symm
  refine Fintype.sum_of_injective grpRow (fun a b h => ?_) _ _ (fun u hu => ?_) (fun g => ?_)
  · have := congrArg Fin.val h
    simp only at this
    exact Fin.ext (by omega)
  · rw [if_neg, zero_mul]
    rintro ⟨h1, -⟩
    exact hu ⟨⟨u.val / 32, by omega⟩, Fin.ext (by simp only; omega)⟩
  · have e : (32 * g.val ≤ t.val) ↔ ((grpRow g).val % 32 = 0 ∧ (grpRow g).val ≤ t.val) := by
      simp only; omega
    exact congrArg (· * _) (if_congr e rfl rfl)

/-- Rows of the group tables past the block are never read: it is enough that the tables hold the rows of the groups
    up to the end of block `i`. -/
theorem head2_tables (K Q V : Fin 2048 → Fin 768 → EReal) (i : Fin 8) (r : Fin 256) (d : Fin 768)
    (qs vs : Fin 64 → Fin 768 → EReal)
    (hq : ∀ g : Fin 64, g.val < 8 * (i.val + 1) → ∀ e, qs g e = Q (grpRow g) e)
    (hv : ∀ g : Fin 64, g.val < 8 * (i.val + 1) → ∀ e, vs g e = V (grpRow g) e) :
    (∑ g : Fin 64, (if 32 * g.val ≤ 256 * i.val + r.val then ∑ e, K (blkRow i r) e * qs g e else 0) * vs g d)
      = head2 K Q V (blkRow i r) d := by
  rw [head2_grp]
  refine Finset.sum_congr rfl fun g _ => ?_
  by_cases h : 32 * g.val ≤ 256 * i.val + r.val
  · have hg : g.val < 8 * (i.val + 1) := by omega
    rw [if_pos h, if_pos h, hv g hg]
    unfold score
    simp only [hq g hg]
  · rw [if_neg h, if_neg h, zero_mul, zero_mul]

end Cert.Attn

end
-- ==== Proof.Words.lean ====
/- The 32-bit integer chains by which both programs build their masks, read as the conditions on row numbers that they
   decide. Rows are numbered below 2048, so a chain in one row is decided over the rows; a comparison of two rows is read
   through the numbers that the words hold. -/
module

public import Idealize.ShloMosaic.Lib.Pointwise
public import Idealize.ShloMosaic.Lib.WordArith

@[expose] public section

set_option maxRecDepth 16384

noncomputable section

namespace Cert.Attn

open Idealize.ShloMosaic

/-- A signed comparison of two small numbers. -/
theorem sle_ofNat (a b : ℕ) (ha : a < 2 ^ 31) (hb : b < 2 ^ 31) :
    IntOp.cmpi .sle (BitVec.ofNat 32 a) (BitVec.ofNat 32 b) = BitVec.ofBool (decide (a ≤ b)) := by
  show BitVec.ofBool (decide ((BitVec.ofNat 32 a).toInt ≤ (BitVec.ofNat 32 b).toInt)) = _
  rw [WordArith.toInt_ofNat_small a ha, WordArith.toInt_ofNat_small b hb]
  simp only [Nat.cast_le]

/-- Two small numbers are one word exactly when they are one number. -/
theorem eq_ofNat (a b : ℕ) (ha : a < 2 ^ 31) (hb : b < 2 ^ 31) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff]
  constructor
  · intro h
    have := congrArg BitVec.toNat h
    rwa [WordArith.toNat_ofNat_of_lt a (by omega), WordArith.toNat_ofNat_of_lt b (by omega)] at this
  · rintro rfl; rfl

/-- A selection by a decided condition. -/
theorem select_ofBool {α : Type} (p : Prop) [Decidable p] (x y : α) :
    Scalar.select (BitVec.ofBool (decide p)) x y = if p then x else y := by
  by_cases h : p
  · rw [if_pos h, decide_eq_true h]; rfl
  · rw [if_neg h, decide_eq_false h]; rfl

/-- A selection by two decided conditions. -/
theorem select_and {α : Type} (p q : Prop) [Decidable p] [Decidable q] (x y : α) :
    Scalar.select (IntOp.andi (BitVec.ofBool (decide p)) (BitVec.ofBool (decide q))) x y = if p ∧ q then x else y := by
  rw [WordArith.andi_ofBool, ← Bool.decide_and, select_ofBool]

/-- The first head's mask, once each row's group is known. -/
theorem select_group {α : Type} (t u : ℕ) (ht : t < 2 ^ 31) (hu : u < 2 ^ 31) (x y : α) :
    Scalar.select (IntOp.andi (IntOp.cmpi .eq (BitVec.ofNat 32 (t / 32)) (BitVec.ofNat 32 (u / 32)))
        (IntOp.cmpi .sle (BitVec.ofNat 32 u) (BitVec.ofNat 32 t))) x y
      = if t / 32 = u / 32 ∧ u ≤ t then x else y := by
  rw [eq_ofNat _ _ (by omega) (by omega), sle_ofNat _ _ hu ht, select_and]

/-- The second head's mask over all rows, once a row's place in its group is known. -/
theorem select_first {α : Type} (t u : ℕ) (ht : t < 2 ^ 31) (hu : u < 2 ^ 31) (x y : α) :
    Scalar.select (IntOp.andi (IntOp.cmpi .eq (BitVec.ofNat 32 (u % 32)) 0#32)
        (IntOp.cmpi .sle (BitVec.ofNat 32 u) (BitVec.ofNat 32 t))) x y
      = if u % 32 = 0 ∧ u ≤ t then x else y := by
  rw [show (0#32 : BitVec 32) = BitVec.ofNat 32 0 from rfl, eq_ofNat _ _ (by omega) (by omega), sle_ofNat _ _ hu ht,
    select_and]

/-- The second head's mask over the groups' first rows, at row `r` of block `i`. -/
theorem select_table {α : Type} (i r g : ℕ) (hi : i < 8) (hr : r < 256) (hg : g < 64) (x y : α) :
    Scalar.select (IntOp.cmpi .sle (IntOp.muli (BitVec.ofNat 32 g) 32#32)
        (IntOp.addi (Scalar.muli (BitVec.ofNat 32 i) 256#32) (BitVec.ofNat 32 r))) x y
      = if 32 * g ≤ 256 * i + r then x else y := by
  have h1 : IntOp.muli (BitVec.ofNat 32 g) 32#32 = BitVec.ofNat 32 (32 * g) := by
    rw [Nat.mul_comm]; exact (BitVec.ofNat_mul (n := 32) g 32).symm
  have h2 : IntOp.addi (Scalar.muli (BitVec.ofNat 32 i) 256#32) (BitVec.ofNat 32 r) = BitVec.ofNat 32 (256 * i + r) := by
    rw [BitVec.ofNat_add, Nat.mul_comm, BitVec.ofNat_mul]; rfl
  rw [h1, h2, sle_ofNat _ _ (by omega) (by omega), select_ofBool]

/-- The block program's floor division by 32, at a row of a block. -/
theorem blkDiv : ∀ n : Fin 256,
    Scalar.select
      (IntOp.andi
        (IntOp.cmpi .ne
          (IntOp.subi (BitVec.setWidth 32 (IntOp.cmpi .sgt (BitVec.ofNat 32 n.val) 0#32))
            (BitVec.setWidth 32 (IntOp.cmpi .slt (BitVec.ofNat 32 n.val) 0#32)))
          (Scalar.subi (Scalar.extui (Scalar.cmpi .sgt 32#32 0#32)) (Scalar.extui (Scalar.cmpi .slt 32#32 0#32))))
        (IntOp.cmpi .ne (IntOp.remsi .vector (BitVec.ofNat 32 n.val) 32#32) 0#32))
      (IntOp.subi (IntOp.divsi .vector (BitVec.ofNat 32 n.val) 32#32) 1#32)
      (IntOp.divsi .vector (BitVec.ofNat 32 n.val) 32#32)
    = BitVec.ofNat 32 (n.val / 32) := by decide +kernel

/-- The sign of a word: `-1`, `0` or `1`. -/
def sgn (w : BitVec 32) : BitVec 32 := if w = 0 then 0 else if w.msb then -1 else 1

/-- The host's sign of an array is the sign of each element. -/
theorem signi_eq_sgn {s : Shape} (x : IVec s 32) : signi x = fun i => sgn (x i) := rfl

/-- The whole-sequence program's floor division by 32, at a row of the sequence. -/
theorem seqDiv : ∀ n : Fin 2048,
    Scalar.select
      (IntOp.andi
        (IntOp.cmpi .ne (sgn (BitVec.ofNat 32 n.val)) (sgn 32#32))
        (IntOp.cmpi .ne (IntOp.remsi .host (BitVec.ofNat 32 n.val) 32#32) 0#32))
      (IntOp.subi (IntOp.divsi .host (BitVec.ofNat 32 n.val) 32#32) 1#32)
      (IntOp.divsi .host (BitVec.ofNat 32 n.val) 32#32)
    = BitVec.ofNat 32 (n.val / 32) := by decide +kernel

/-- The whole-sequence program's remainder by 32, at a row of the sequence. -/
theorem seqRem : ∀ n : Fin 2048,
    Scalar.select
      (IntOp.andi
        (IntOp.cmpi .ne
          (IntOp.cmpi .slt (IntOp.remsi .host (BitVec.ofNat 32 n.val) (Scalar.select (IntOp.cmpi .eq 32#32 0#32) 1#32 32#32)) 0#32)
          (IntOp.cmpi .slt (Scalar.select (IntOp.cmpi .eq 32#32 0#32) 1#32 32#32) 0#32))
        (IntOp.cmpi .ne (IntOp.remsi .host (BitVec.ofNat 32 n.val) (Scalar.select (IntOp.cmpi .eq 32#32 0#32) 1#32 32#32)) 0#32))
      (IntOp.addi (IntOp.remsi .host (BitVec.ofNat 32 n.val) (Scalar.select (IntOp.cmpi .eq 32#32 0#32) 1#32 32#32))
        (Scalar.select (IntOp.cmpi .eq 32#32 0#32) 1#32 32#32))
      (IntOp.remsi .host (BitVec.ofNat 32 n.val) (Scalar.select (IntOp.cmpi .eq 32#32 0#32) 1#32 32#32))
    = BitVec.ofNat 32 (n.val % 32) := by decide +kernel

end Cert.Attn

end
-- ==== Proof.RefRead.lean ====
/- The reference's result, read at an index: the two masked heads and the output projection of `Spec`. -/
module

public import proofs.«01_k».proof.Proof.Gen.ReferenceIdeal.Run
public import proofs.«01_k».proof.Proof.Spec
public import proofs.«01_k».proof.Proof.Words
public import Idealize.ShloMosaic.Lib.Pointwise
public import Idealize.ShloMosaic.Lib.Tactic
public import Idealize.ShloMosaic.Lib.Tactic.CleanTypes

@[expose] public section

set_option maxRecDepth 16384

noncomputable section

namespace Cert.ReferenceIdeal.Hand

open Cert.Attn Cert.ReferenceIdeal Cert.ReferenceIdeal.Gen Idealize.ShloMosaic Idealize.ShloMosaic.TcCoe Idealize.SL.Sem

variable (m : (ℓ : Loc nD τ sig) → Buf (Elt Ideal) ℓ)

/-- The reference's projections at batch `b`, off its arguments: keys, queries and values. -/
abbrev kAt (c : Dev nD) (b : Fin 2) : Fin 2048 → Fin 768 → EReal :=
  proj (fun t e => m (c.tc.loc main_arg0) (ix3 b t e)) (fun d e => m (c.tc.loc main_arg1) (ix2 d e)) fun d => m (c.tc.loc main_arg2) (ix1 d)
abbrev qAt (c : Dev nD) (b : Fin 2) : Fin 2048 → Fin 768 → EReal :=
  proj (fun t e => m (c.tc.loc main_arg0) (ix3 b t e)) (fun d e => m (c.tc.loc main_arg3) (ix2 d e)) fun d => m (c.tc.loc main_arg4) (ix1 d)
abbrev vAt (c : Dev nD) (b : Fin 2) : Fin 2048 → Fin 768 → EReal :=
  proj (fun t e => m (c.tc.loc main_arg0) (ix3 b t e)) (fun d e => m (c.tc.loc main_arg5) (ix2 d e)) fun d => m (c.tc.loc main_arg6) (ix1 d)

/-- THE REFERENCE'S RESULT AT AN INDEX. -/
theorem ref_apply (c : Dev nD) (b : Fin 2) (t : Fin 2048) (o : Fin 768) :
    Cert.ReferenceIdeal.Value.res_out0 (F := Ideal) m c (ix3 b t o)
      = outAt (head1 (kAt m c b) (qAt m c b) (vAt m c b) t) (head2 (kAt m c b) (qAt m c b) (vAt m c b) t)
          (fun d => m (c.tc.loc main_arg7) (ix2 o ⟨d.val, by omega⟩))
          (fun d => m (c.tc.loc main_arg7) (ix2 o ⟨768 + d.val, by omega⟩)) (m (c.tc.loc main_arg8) (ix1 o)) := by
  unfold Cert.ReferenceIdeal.Value.res_out0 Cert.ReferenceIdeal.Value.res_main_v40
  clean_types
  simp only [signi_eq_sgn]
  pointwise [id_eq]
  simp only [seqDiv, seqRem]
  simp only [select_group _ _ (lt_trans (Fin.isLt _) (by decide : 2048 < 2 ^ 31)) (lt_trans (Fin.isLt _) (by decide : 2048 < 2 ^ 31)),
    select_first _ _ (lt_trans (Fin.isLt _) (by decide : 2048 < 2 ^ 31)) (lt_trans (Fin.isLt _) (by decide : 2048 < 2 ^ 31))]
  unfold outAt head1 head2 score
  simp only [ite_mul, zero_mul]
  rfl

end Cert.ReferenceIdeal.Hand

end
-- ==== Proof.Open.lean ====
/- What a grid point leaves, opened to the values that its body computes: the block it writes is the body's function of
   the input blocks and of what the point leaves in its scratch; the scratch is filled at the first point, and of the two
   tables eight rows are written at every point. -/
module

public import proofs.«01_k».proof.Proof.Gen.KernelIdeal.Frame
public import Idealize.ShloMosaic.Lib.Pipeline.Value
public import Idealize.ShloMosaic.Lib.Pipeline.ValueKit
public import Idealize.ShloMosaic.Lib.Pipeline.ReadBack
public import Idealize.ShloMosaic.Lib.WritesUnit
public import Idealize.ShloMosaic.Lib.Tactic

@[expose] public section

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The block that the body writes at point `t`, over the five weight scratches and the two tables. -/
abbrev bodyOut (c : Dev nD) (t : Fin cfg0.N) (wk wq wv w1 w2 : Vec F S768x768 .bf16) (qs vs : Vec F S64x768 .f32) :
    Vec F S1x256x768 .f32 :=
  k0_pay1
    (k0_pay21 (k0_pay14 (iblk m c 0 t) wv (iblk m c 7 t))
      (k0_pay18 (k0_pay12 (iblk m c 0 t) wk (iblk m c 5 t)) (k0_pay13 (iblk m c 0 t) wq (iblk m c 6 t)))
      (iota Kind.tc S256x256 32 [0] iota_S256x256_d0_w32) (iota Kind.tc S256x256 32 [1] iota_S256x256_d1_w32) k0_pay19
      (32#32) k0_pay20 0#32)
    (k0_pay22 (BitVec.ofNat 32 (grid0.coords t 1).val) (k0_pay12 (iblk m c 0 t) wk (iblk m c 5 t)) qs) (k0_pay23 vs)
    w1 w2 (iblk m c 8 t)

/-- A load of a whole buffer reads what the stores before it leave. -/
theorem readCov_all {sig : RefSig} {κ : Kind} {sp : Space} {s : Shape} {e : EltTy} {Val : EltTy → Type} [∀ e, Nonempty (Val e)]
    (v : View sig κ sp s e) (L : List (View.Piece Val s e)) {off : Fin s.rank → ℕ} (inb : ∀ a, off a + s.size a ≤ s.size a)
    (h : ∀ a, off a = 0) : v.readCov L (Rect.unit off (no_index s.size) inb).toLoadRect = View.canon L := by
  rw [View.readCov_eq_canon']
  funext j
  congr 1
  funext a
  apply Fin.ext
  show off a + 1 * (j a).val = (j a).val
  rw [h a]; omega

theorem out_B (c : Dev nD) (t : Fin cfg0.N) (h0 : ¬t.val % 16 = 0) (h1 : ¬t.val % 8 = 0) :
    (outsAt0 m c t.val t.isLt).1 = bodyOut m c t (outsAt0 m c t.val t.isLt).2.1 (outsAt0 m c t.val t.isLt).2.2.1
      (outsAt0 m c t.val t.isLt).2.2.2.1 (outsAt0 m c t.val t.isLt).2.2.2.2.1 (outsAt0 m c t.val t.isLt).2.2.2.2.2.1
      (outsAt0 m c t.val t.isLt).2.2.2.2.2.2.1 (outsAt0 m c t.val t.isLt).2.2.2.2.2.2.2 := by
  rw [outsAt0_B m c t h0 h1]
  frame_out
  simp only [read_unread_whole]
  rfl

theorem out_A (c : Dev nD) (t : Fin cfg0.N) (h0 : t.val % 16 = 0) (h1 : t.val % 8 = 0) :
    (outsAt0 m c t.val t.isLt).1 = bodyOut m c t (outsAt0 m c t.val t.isLt).2.1 (outsAt0 m c t.val t.isLt).2.2.1
      (outsAt0 m c t.val t.isLt).2.2.2.1 (outsAt0 m c t.val t.isLt).2.2.2.2.1 (outsAt0 m c t.val t.isLt).2.2.2.2.2.1
      (outsAt0 m c t.val t.isLt).2.2.2.2.2.2.1 (outsAt0 m c t.val t.isLt).2.2.2.2.2.2.2 := by
  rw [outsAt0_A m c t h0 h1]
  frame_out
  simp (disch := decide) only [readCov_all]

theorem out_C (c : Dev nD) (t : Fin cfg0.N) (h0 : ¬ t.val % 16 = 0) (h1 : t.val % 8 = 0) :
    (outsAt0 m c t.val t.isLt).1 = bodyOut m c t (outsAt0 m c t.val t.isLt).2.1 (outsAt0 m c t.val t.isLt).2.2.1
      (outsAt0 m c t.val t.isLt).2.2.2.1 (outsAt0 m c t.val t.isLt).2.2.2.2.1 (outsAt0 m c t.val t.isLt).2.2.2.2.2.1
      (outsAt0 m c t.val t.isLt).2.2.2.2.2.2.1 (outsAt0 m c t.val t.isLt).2.2.2.2.2.2.2 := by
  rw [outsAt0_C m c t h0 h1]
  frame_out
  simp (disch := decide) only [read_unread_whole, readCov_all]
  rfl

/-! ## The weight scratches: filled at the first point, carried by every other -/

theorem wk_A (c : Dev nD) (t : Fin cfg0.N) (h0 : t.val % 16 = 0) (h1 : t.val % 8 = 0) :
    (outsAt0 m c t.val t.isLt).2.1 = k0_pay2 (iblk m c 1 t) := by
  rw [outsAt0_A m c t h0 h1]
  frame_out

theorem wq_A (c : Dev nD) (t : Fin cfg0.N) (h0 : t.val % 16 = 0) (h1 : t.val % 8 = 0) :
    (outsAt0 m c t.val t.isLt).2.2.1 = k0_pay3 (iblk m c 2 t) := by
  rw [outsAt0_A m c t h0 h1]
  frame_out

theorem wv_A (c : Dev nD) (t : Fin cfg0.N) (h0 : t.val % 16 = 0) (h1 : t.val % 8 = 0) :
    (outsAt0 m c t.val t.isLt).2.2.2.1 = k0_pay4 (iblk m c 3 t) := by
  rw [outsAt0_A m c t h0 h1]
  frame_out

theorem w1_A (c : Dev nD) (t : Fin cfg0.N) (h0 : t.val % 16 = 0) (h1 : t.val % 8 = 0) :
    (outsAt0 m c t.val t.isLt).2.2.2.2.1 = k0_pay5 (View.ld (iblk m c 4 t) (Rect.unit ![0, 0] ![768, 768] inb_S768x1536_S768x768_0_0)) := by
  rw [outsAt0_A m c t h0 h1]
  frame_out
  rfl

theorem w2_A (c : Dev nD) (t : Fin cfg0.N) (h0 : t.val % 16 = 0) (h1 : t.val % 8 = 0) :
    (outsAt0 m c t.val t.isLt).2.2.2.2.2.1 = k0_pay6 (View.ld (iblk m c 4 t) (Rect.unit ![0, 768] ![768, 768] inb_S768x1536_S768x768_0_768)) := by
  rw [outsAt0_A m c t h0 h1]
  frame_out
  rfl

/-- At every point but the first the five weight scratches are what the point before left. -/
theorem weights_carried (c : Dev nD) (t : Fin cfg0.N) (h0 : ¬t.val % 16 = 0) :
    (outsAt0 m c t.val t.isLt).2.1 = (outsAt0 m c (t.val - 1) (Nat.lt_of_le_of_lt (Nat.sub_le _ _) t.isLt)).2.1
       ∧ (outsAt0 m c t.val t.isLt).2.2.1 = (outsAt0 m c (t.val - 1) (Nat.lt_of_le_of_lt (Nat.sub_le _ _) t.isLt)).2.2.1
       ∧ (outsAt0 m c t.val t.isLt).2.2.2.1 = (outsAt0 m c (t.val - 1) (Nat.lt_of_le_of_lt (Nat.sub_le _ _) t.isLt)).2.2.2.1
       ∧ (outsAt0 m c t.val t.isLt).2.2.2.2.1 = (outsAt0 m c (t.val - 1) (Nat.lt_of_le_of_lt (Nat.sub_le _ _) t.isLt)).2.2.2.2.1
       ∧ (outsAt0 m c t.val t.isLt).2.2.2.2.2.1 = (outsAt0 m c (t.val - 1) (Nat.lt_of_le_of_lt (Nat.sub_le _ _) t.isLt)).2.2.2.2.2.1 := by
  by_cases h1 : t.val % 8 = 0
  · rw [outsAt0_C m c t h0 h1]
    exact ⟨rfl, rfl, rfl, rfl, rfl⟩
  · rw [outsAt0_B m c t h0 h1]
    exact ⟨rfl, rfl, rfl, rfl, rfl⟩

/-! ## The two tables: eight rows are written at every point -/

/-- Where point `t` writes its eight rows. -/
theorem off_rows : ∀ t : Fin cfg0.N, k0_off1 (grid0.coords t) = ![8 * (t.val % 8), 0] :=
  (by decide +kernel : ∀ t : Fin grid0.N, _)

theorem qs_hit_B (c : Dev nD) (t : Fin cfg0.N) (h0 : ¬t.val % 16 = 0) (h1 : ¬t.val % 8 = 0) (y : S64x768.Idx) (x : S8x768.Idx)
    (hx0 : (y (0 : Fin 2)).val = 8 * (t.val % 8) + (x (0 : Fin 2)).val) (hx1 : (y (1 : Fin 2)).val = (x (1 : Fin 2)).val) :
    (outsAt0 m c t.val t.isLt).2.2.2.2.2.2.1 y
      = k0_pay16 (k0_pay15 (iblk m c 0 t) (outsAt0 m c t.val t.isLt).2.2.1 (iblk m c 6 t)) x := by
  rw [outsAt0_B m c t h0 h1]
  frame_out
  simp only [read_unread_whole]
  exact View.read_writes_cons_rows_of_mem _ _ _ _ _ y x (off_rows t) hx0 hx1

theorem qs_hit_A (c : Dev nD) (t : Fin cfg0.N) (h0 : t.val % 16 = 0) (h1 : t.val % 8 = 0) (y : S64x768.Idx) (x : S8x768.Idx)
    (hx0 : (y (0 : Fin 2)).val = 8 * (t.val % 8) + (x (0 : Fin 2)).val) (hx1 : (y (1 : Fin 2)).val = (x (1 : Fin 2)).val) :
    (outsAt0 m c t.val t.isLt).2.2.2.2.2.2.1 y
      = k0_pay16 (k0_pay15 (iblk m c 0 t) (outsAt0 m c t.val t.isLt).2.2.1 (iblk m c 6 t)) x := by
  rw [outsAt0_A m c t h0 h1]
  frame_out
  rw [← View.read_writes_junk_eq_canon (View.whole cc0_scratch5)]
  exact View.read_writes_cons_rows_of_mem _ _ _ _ _ y x (off_rows t) hx0 hx1

theorem qs_hit_C (c : Dev nD) (t : Fin cfg0.N) (h0 : ¬t.val % 16 = 0) (h1 : t.val % 8 = 0) (y : S64x768.Idx) (x : S8x768.Idx)
    (hx0 : (y (0 : Fin 2)).val = 8 * (t.val % 8) + (x (0 : Fin 2)).val) (hx1 : (y (1 : Fin 2)).val = (x (1 : Fin 2)).val) :
    (outsAt0 m c t.val t.isLt).2.2.2.2.2.2.1 y
      = k0_pay16 (k0_pay15 (iblk m c 0 t) (outsAt0 m c t.val t.isLt).2.2.1 (iblk m c 6 t)) x := by
  rw [outsAt0_C m c t h0 h1]
  frame_out
  simp only [read_unread_whole]
  rw [← View.read_writes_junk_eq_canon (View.whole cc0_scratch5)]
  exact View.read_writes_cons_rows_of_mem _ _ _ _ _ y x (off_rows t) hx0 hx1

theorem qs_miss_B (c : Dev nD) (t : Fin cfg0.N) (h0 : ¬t.val % 16 = 0) (h1 : ¬t.val % 8 = 0) (y : S64x768.Idx)
    (hy : (y (0 : Fin 2)).val < 8 * (t.val % 8)) :
    (outsAt0 m c t.val t.isLt).2.2.2.2.2.2.1 y = (outsAt0 m c (t.val - 1) (Nat.lt_of_le_of_lt (Nat.sub_le _ _) t.isLt)).2.2.2.2.2.2.1 y := by
  rw [outsAt0_B m c t h0 h1]
  frame_out
  rw [View.read_writes_cons_rows_of_not_mem _ _ _ _ _ y (off_rows t) rfl (Or.inl hy)]
  rw [View.writes_nil]
  exact congrFun (read_unread_whole cc0_scratch5 _ _) y

theorem vs_hit_B (c : Dev nD) (t : Fin cfg0.N) (h0 : ¬t.val % 16 = 0) (h1 : ¬t.val % 8 = 0) (y : S64x768.Idx) (x : S8x768.Idx)
    (hx0 : (y (0 : Fin 2)).val = 8 * (t.val % 8) + (x (0 : Fin 2)).val) (hx1 : (y (1 : Fin 2)).val = (x (1 : Fin 2)).val) :
    (outsAt0 m c t.val t.isLt).2.2.2.2.2.2.2 y
      = k0_pay17 (k0_pay11 (iblk m c 0 t) (outsAt0 m c t.val t.isLt).2.2.2.1 (iblk m c 7 t)) x := by
  rw [outsAt0_B m c t h0 h1]
  frame_out
  simp only [read_unread_whole]
  exact View.read_writes_cons_rows_of_mem _ _ _ _ _ y x (off_rows t) hx0 hx1

theorem vs_hit_A (c : Dev nD) (t : Fin cfg0.N) (h0 : t.val % 16 = 0) (h1 : t.val % 8 = 0) (y : S64x768.Idx) (x : S8x768.Idx)
    (hx0 : (y (0 : Fin 2)).val = 8 * (t.val % 8) + (x (0 : Fin 2)).val) (hx1 : (y (1 : Fin 2)).val = (x (1 : Fin 2)).val) :
    (outsAt0 m c t.val t.isLt).2.2.2.2.2.2.2 y
      = k0_pay17 (k0_pay11 (iblk m c 0 t) (outsAt0 m c t.val t.isLt).2.2.2.1 (iblk m c 7 t)) x := by
  rw [outsAt0_A m c t h0 h1]
  frame_out
  rw [← View.read_writes_junk_eq_canon (View.whole cc0_scratch6)]
  exact View.read_writes_cons_rows_of_mem _ _ _ _ _ y x (off_rows t) hx0 hx1

theorem vs_hit_C (c : Dev nD) (t : Fin cfg0.N) (h0 : ¬t.val % 16 = 0) (h1 : t.val % 8 = 0) (y : S64x768.Idx) (x : S8x768.Idx)
    (hx0 : (y (0 : Fin 2)).val = 8 * (t.val % 8) + (x (0 : Fin 2)).val) (hx1 : (y (1 : Fin 2)).val = (x (1 : Fin 2)).val) :
    (outsAt0 m c t.val t.isLt).2.2.2.2.2.2.2 y
      = k0_pay17 (k0_pay11 (iblk m c 0 t) (outsAt0 m c t.val t.isLt).2.2.2.1 (iblk m c 7 t)) x := by
  rw [outsAt0_C m c t h0 h1]
  frame_out
  simp only [read_unread_whole]
  rw [← View.read_writes_junk_eq_canon (View.whole cc0_scratch6)]
  exact View.read_writes_cons_rows_of_mem _ _ _ _ _ y x (off_rows t) hx0 hx1

theorem vs_miss_B (c : Dev nD) (t : Fin cfg0.N) (h0 : ¬t.val % 16 = 0) (h1 : ¬t.val % 8 = 0) (y : S64x768.Idx)
    (hy : (y (0 : Fin 2)).val < 8 * (t.val % 8)) :
    (outsAt0 m c t.val t.isLt).2.2.2.2.2.2.2 y = (outsAt0 m c (t.val - 1) (Nat.lt_of_le_of_lt (Nat.sub_le _ _) t.isLt)).2.2.2.2.2.2.2 y := by
  rw [outsAt0_B m c t h0 h1]
  frame_out
  rw [View.read_writes_cons_rows_of_not_mem _ _ _ _ _ y (off_rows t) rfl (Or.inl hy)]
  rw [View.writes_nil]
  exact congrFun (read_unread_whole cc0_scratch6 _ _) y

end Cert.KernelIdeal.Hand

end
-- ==== Proof.PayRead.lean ====
/- The values that one grid point of the kernel computes, read at an index: the projections of its 256 rows, the masked
   scores within the block, the masked scores against the tables of the groups' first rows, and the block it writes. -/
module

public import proofs.«01_k».proof.Proof.Gen.KernelIdeal.Skeleton
public import proofs.«01_k».proof.Proof.Spec
public import proofs.«01_k».proof.Proof.Words
public import Idealize.ShloMosaic.Lib.Pointwise
public import Idealize.ShloMosaic.Lib.Tactic

@[expose] public section

set_option maxRecDepth 16384

noncomputable section

namespace Cert.KernelIdeal.Hand

open Cert.Attn Cert.KernelIdeal Cert.KernelIdeal.Gen Idealize.ShloMosaic Idealize.ShloMosaic.TcCoe Idealize.SL.Sem

/-- Row `r`, feature `d` of a block's projection. -/
abbrev blkProj (x : Vec Ideal S1x256x768 .f32) (w : Vec Ideal S768x768 .bf16) (b : Vec Ideal S1x768 .f32)
    (r : Fin 256) (d : Fin 768) : EReal :=
  (∑ e : Fin 768, x (ix3 0 r e) * w (ix2 d e)) + b (ix2 0 d)

theorem pay10_apply (x : Vec Ideal S1x256x768 .f32) (w : Vec Ideal S768x768 .bf16) (b : Vec Ideal S1x768 .f32)
    (r : Fin 256) (d : Fin 768) : k0_pay10 (F := Ideal) x w b (ix2 r d) = blkProj x w b r d := by
  pointwise [k0_pay10, k0_pay9]

theorem pay11_apply (x : Vec Ideal S1x256x768 .f32) (w : Vec Ideal S768x768 .bf16) (b : Vec Ideal S1x768 .f32)
    (r : Fin 256) (d : Fin 768) : k0_pay11 (F := Ideal) x w b (ix2 r d) = blkProj x w b r d := by
  pointwise [k0_pay11, k0_pay9]

theorem pay12_apply (x : Vec Ideal S1x256x768 .f32) (w : Vec Ideal S768x768 .bf16) (b : Vec Ideal S1x768 .f32)
    (r : Fin 256) (d : Fin 768) : k0_pay12 (F := Ideal) x w b (ix2 r d) = blkProj x w b r d := by
  pointwise [k0_pay12, k0_pay9]

theorem pay13_apply (x : Vec Ideal S1x256x768 .f32) (w : Vec Ideal S768x768 .bf16) (b : Vec Ideal S1x768 .f32)
    (r : Fin 256) (d : Fin 768) : k0_pay13 (F := Ideal) x w b (ix2 r d) = blkProj x w b r d := by
  pointwise [k0_pay13, k0_pay10, k0_pay9]

theorem pay14_apply (x : Vec Ideal S1x256x768 .f32) (w : Vec Ideal S768x768 .bf16) (b : Vec Ideal S1x768 .f32)
    (r : Fin 256) (d : Fin 768) : k0_pay14 (F := Ideal) x w b (ix2 r d) = blkProj x w b r d := by
  pointwise [k0_pay14, k0_pay11, k0_pay9]

/-- The queries' rows that a block adds to its table: the first row of each of its eight groups. -/
theorem pay16_apply (x : Vec Ideal S1x256x768 .f32) (w : Vec Ideal S768x768 .bf16) (b : Vec Ideal S1x768 .f32)
    (g : Fin 8) (d : Fin 768) :
    k0_pay16 (F := Ideal) (k0_pay15 x w b) (ix2 g d) = blkProj x w b ⟨g.val * 32, by omega⟩ d := by
  pointwise [k0_pay16, k0_pay15]
  exact pay10_apply x w b _ d

/-- The values' rows that a block adds to its table. -/
theorem pay17_apply (x : Vec Ideal S1x256x768 .f32) (w : Vec Ideal S768x768 .bf16) (b : Vec Ideal S1x768 .f32)
    (g : Fin 8) (d : Fin 768) :
    k0_pay17 (F := Ideal) (k0_pay11 x w b) (ix2 g d) = blkProj x w b ⟨g.val * 32, by omega⟩ d := by
  pointwise [k0_pay17]
  exact pay11_apply x w b _ d

/-- The first head within a block. -/
theorem pay21_apply (v a b : FVec Ideal S256x768 .bf16) (r : Fin 256) (d : Fin 768) :
    k0_pay21 (F := Ideal) v (k0_pay18 a b) (iota Kind.tc S256x256 32 [0] iota_S256x256_d0_w32)
        (iota Kind.tc S256x256 32 [1] iota_S256x256_d1_w32) k0_pay19 (32#32) k0_pay20 0#32 (ix2 r d)
      = ∑ c : Fin 256, (if r.val / 32 = c.val / 32 ∧ c.val ≤ r.val then ∑ e : Fin 768, a (ix2 r e) * b (ix2 c e) else (0 : EReal))
          * v (ix2 c d) := by
  pointwise [k0_pay21, k0_pay18, k0_pay19, k0_pay20]
  simp only [blkDiv]
  simp only [select_group _ _ (lt_trans (Fin.isLt _) (by decide : 256 < 2 ^ 31)) (lt_trans (Fin.isLt _) (by decide : 256 < 2 ^ 31)),
    ite_mul, zero_mul]

/-- The masked scores of a block's rows against the queries' table. -/
theorem pay22_apply (i : Fin 8) (k : FVec Ideal S256x768 .bf16) (q : Vec Ideal S64x768 .f32) (r : Fin 256) (g : Fin 64) :
    k0_pay22 (F := Ideal) (BitVec.ofNat 32 i.val) k q (ix2 r g)
      = if 32 * g.val ≤ 256 * i.val + r.val then ∑ e : Fin 768, k (ix2 r e) * q (ix2 g e) else (0 : EReal) := by
  pointwise [k0_pay22]
  rw [select_table _ _ _ i.isLt r.isLt g.isLt]

/-- The block's output: the two heads' projections and the bias. -/
theorem pay1_apply (h : FVec Ideal S256x768 .f32) (s : FVec Ideal S256x64 .bf16) (v : Vec Ideal S64x768 .f32)
    (w1 w2 : Vec Ideal S768x768 .bf16) (b : Vec Ideal S1x768 .f32) (z : Fin 1) (r : Fin 256) (o : Fin 768) :
    k0_pay1 (F := Ideal) h s (k0_pay23 v) w1 w2 b (ix3 z r o)
      = outAt (fun d => h (ix2 r d)) (fun d => ∑ g : Fin 64, s (ix2 r g) * v (ix2 g d)) (fun d => w1 (ix2 o d))
          (fun d => w2 (ix2 o d)) (b (ix2 0 o)) := by
  unfold outAt
  pointwise [k0_pay1, k0_pay23]

/-- WHAT ONE GRID POINT WRITES, AT AN INDEX: the two heads and the output projection, if the block holds its rows of the
    sequence and the tables hold the first rows of the groups up to the block's end. -/
theorem body_apply (i : Fin 8) (x : Vec Ideal S1x256x768 .f32)
    (wk wq wv w1 w2 : Vec Ideal S768x768 .bf16) (bk bq bv bu : Vec Ideal S1x768 .f32) (qs vs : Vec Ideal S64x768 .f32)
    (K Q V : Fin 2048 → Fin 768 → EReal)
    (hK : ∀ r d, blkProj x wk bk r d = K (blkRow i r) d)
    (hQ : ∀ r d, blkProj x wq bq r d = Q (blkRow i r) d)
    (hV : ∀ r d, blkProj x wv bv r d = V (blkRow i r) d)
    (hq : ∀ g : Fin 64, g.val < 8 * (i.val + 1) → ∀ e : Fin 768, qs (ix2 g e) = Q (grpRow g) e)
    (hv : ∀ g : Fin 64, g.val < 8 * (i.val + 1) → ∀ e : Fin 768, vs (ix2 g e) = V (grpRow g) e)
    (z : Fin 1) (r : Fin 256) (o : Fin 768) :
    k0_pay1 (F := Ideal)
        (k0_pay21 (k0_pay14 x wv bv) (k0_pay18 (k0_pay12 x wk bk) (k0_pay13 x wq bq))
          (iota Kind.tc S256x256 32 [0] iota_S256x256_d0_w32) (iota Kind.tc S256x256 32 [1] iota_S256x256_d1_w32) k0_pay19
          (32#32) k0_pay20 0#32)
        (k0_pay22 (BitVec.ofNat 32 i.val) (k0_pay12 x wk bk) qs) (k0_pay23 vs) w1 w2 bu (ix3 z r o)
      = outAt (head1 K Q V (blkRow i r)) (head2 K Q V (blkRow i r)) (fun d => w1 (ix2 o d)) (fun d => w2 (ix2 o d))
          (bu (ix2 0 o)) := by
  rw [pay1_apply]
  congr 1
  · funext d
    rw [pay21_apply, head1_blk]
    simp only [pay14_apply, pay12_apply, pay13_apply, hK, hQ, hV]
    rfl
  · funext d
    rw [← head2_tables K Q V i r d (fun g e => qs (ix2 g e)) (fun g e => vs (ix2 g e)) hq hv]
    simp only [pay22_apply, pay12_apply, hK]

end Cert.KernelIdeal.Hand

end
-- ==== Proof.Blocks.lean ====
/- What the kernel's input blocks hold at a grid point, entry by entry, in the argument arrays: point `t` of the sixteen
   works on batch `t / 8` and on the `t % 8`-th of its eight blocks of 256 rows; every weight and bias window is the whole
   array at every point. -/
module

public import proofs.«01_k».proof.Proof.Open
public import proofs.«01_k».proof.Proof.PayRead

@[expose] public section

set_option maxRecDepth 16384

noncomputable section

namespace Cert.KernelIdeal.Hand

open Cert.KernelIdeal Cert.KernelIdeal.Gen Cert.Attn Idealize.ShloMosaic Idealize.ShloMosaic.TcCoe Idealize.SL.Sem

variable (m : (ℓ : Loc nD τ sig) → Buf (Elt Ideal) ℓ)

/-- The batch of a grid point. -/
abbrev batch (t : Fin cfg0.N) : Fin 2 := ⟨t.val / 8, by have := lt_of_lt_of_eq t.isLt (show cfg0.N = 16 from N_0); omega⟩

/-- The block of rows of a grid point. -/
abbrev step (t : Fin cfg0.N) : Fin 8 := ⟨t.val % 8, by omega⟩

theorem coord1 : ∀ t : Fin cfg0.N, (grid0.coords t 1).val = t.val % 8 :=
  (by decide +kernel : ∀ t : Fin grid0.N, _)

theorem idx0 : ∀ t : Fin cfg0.N, win0_0.index t = ![t.val / 8, t.val % 8, 0] :=
  (by decide +kernel : ∀ t : Fin grid0.N, _)

theorem idxW : ∀ t : Fin cfg0.N, win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

/-- The rows of the sequence that the point works on. -/
theorem blk0_apply (c : Dev nD) (t : Fin cfg0.N) (z : Fin 1) (r : Fin 256) (e : Fin 768) :
    iblk m c 0 t (ix3 z r e) = m (c.tc.loc main_arg0) (ix3 (batch t) (blkRow (step t) r) e) := by
  blk_point [iblk, V, idx0 t]

theorem blk1_apply (c : Dev nD) (t : Fin cfg0.N) (d e : Fin 768) :
    iblk m c 1 t (ix2 d e) = m (c.tc.loc main_arg1) (ix2 d e) := by
  blk_point [iblk, V, idxW t]

theorem blk2_apply (c : Dev nD) (t : Fin cfg0.N) (d e : Fin 768) :
    iblk m c 2 t (ix2 d e) = m (c.tc.loc main_arg3) (ix2 d e) := by
  blk_point [iblk, V, idxW t]

theorem blk3_apply (c : Dev nD) (t : Fin cfg0.N) (d e : Fin 768) :
    iblk m c 3 t (ix2 d e) = m (c.tc.loc main_arg5) (ix2 d e) := by
  blk_point [iblk, V, idxW t]

theorem blk4_apply (c : Dev nD) (t : Fin cfg0.N) (d : Fin 768) (e : Fin 1536) :
    iblk m c 4 t (ix2 d e) = m (c.tc.loc main_arg7) (ix2 d e) := by
  blk_point [iblk, V, idxW t]

theorem blk5_apply (c : Dev nD) (t : Fin cfg0.N) (z : Fin 1) (d : Fin 768) :
    iblk m c 5 t (ix2 z d) = m (c.tc.loc main_arg2) (ix1 d) := by
  blk_point [iblk, V, idxW t]

theorem blk6_apply (c : Dev nD) (t : Fin cfg0.N) (z : Fin 1) (d : Fin 768) :
    iblk m c 6 t (ix2 z d) = m (c.tc.loc main_arg4) (ix1 d) := by
  blk_point [iblk, V, idxW t]

theorem blk7_apply (c : Dev nD) (t : Fin cfg0.N) (z : Fin 1) (d : Fin 768) :
    iblk m c 7 t (ix2 z d) = m (c.tc.loc main_arg6) (ix1 d) := by
  blk_point [iblk, V, idxW t]

theorem blk8_apply (c : Dev nD) (t : Fin cfg0.N) (z : Fin 1) (d : Fin 768) :
    iblk m c 8 t (ix2 z d) = m (c.tc.loc main_arg8) (ix1 d) := by
  blk_point [iblk, V, idxW t]

end Cert.KernelIdeal.Hand

end
-- ==== Proof.Sweep.lean ====
/- What the sweep over the sixteen grid points carries: the weight scratches hold the weights at every point, and after
   the `i`-th block of a batch the two tables hold the projected first rows of the groups up to the end of block `i`.
   With that, the block a point writes is the reference's mathematics at its rows, and so is the whole result. -/
module

public import proofs.«01_k».proof.Proof.Blocks
public import proofs.«01_k».proof.Proof.Gen.KernelIdeal.Value

@[expose] public section

set_option maxRecDepth 16384

noncomputable section

namespace Cert.KernelIdeal.Hand

open Cert.KernelIdeal Cert.KernelIdeal.Gen Cert.Attn Idealize.ShloMosaic Idealize.ShloMosaic.TcCoe Idealize.SL.Sem

variable (m : (ℓ : Loc nD τ sig) → Buf (Elt Ideal) ℓ)

/-! ## The three projections of a batch, from the arguments -/

abbrev kOf (c : Dev nD) (b : Fin 2) : Fin 2048 → Fin 768 → EReal :=
  proj (fun t e => m (c.tc.loc main_arg0) (ix3 b t e)) (fun d e => m (c.tc.loc main_arg1) (ix2 d e)) fun d => m (c.tc.loc main_arg2) (ix1 d)

abbrev qOf (c : Dev nD) (b : Fin 2) : Fin 2048 → Fin 768 → EReal :=
  proj (fun t e => m (c.tc.loc main_arg0) (ix3 b t e)) (fun d e => m (c.tc.loc main_arg3) (ix2 d e)) fun d => m (c.tc.loc main_arg4) (ix1 d)

abbrev vOf (c : Dev nD) (b : Fin 2) : Fin 2048 → Fin 768 → EReal :=
  proj (fun t e => m (c.tc.loc main_arg0) (ix3 b t e)) (fun d e => m (c.tc.loc main_arg5) (ix2 d e)) fun d => m (c.tc.loc main_arg6) (ix1 d)

/-! ## The weights -/

/-- The five weight scratches hold the weights. -/
structure Weights (c : Dev nD) (wk wq wv w1 w2 : Vec Ideal S768x768 .bf16) : Prop where
  k : ∀ d e : Fin 768, wk (ix2 d e) = m (c.tc.loc main_arg1) (ix2 d e)
  q : ∀ d e : Fin 768, wq (ix2 d e) = m (c.tc.loc main_arg3) (ix2 d e)
  v : ∀ d e : Fin 768, wv (ix2 d e) = m (c.tc.loc main_arg5) (ix2 d e)
  u1 : ∀ o d : Fin 768, w1 (ix2 o d) = m (c.tc.loc main_arg7) (ix2 o ⟨d.val, by omega⟩)
  u2 : ∀ o d : Fin 768, w2 (ix2 o d) = m (c.tc.loc main_arg7) (ix2 o ⟨768 + d.val, by omega⟩)

theorem weights_first (c : Dev nD) (t : Fin cfg0.N) (h0 : t.val % 16 = 0) (h1 : t.val % 8 = 0) :
    Weights m c (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2.1 where
  k d e := by
    rw [wk_A m c t h0 h1, ← blk1_apply m c t]
    pointwise [k0_pay2]
  q d e := by
    rw [wq_A m c t h0 h1, ← blk2_apply m c t]
    pointwise [k0_pay3]
  v d e := by
    rw [wv_A m c t h0 h1, ← blk3_apply m c t]
    pointwise [k0_pay4]
  u1 o d := by
    rw [w1_A m c t h0 h1, ← blk4_apply m c t]
    pointwise [k0_pay5, View.ld]
  u2 o d := by
    rw [w2_A m c t h0 h1, ← blk4_apply m c t]
    pointwise [k0_pay6, View.ld]

theorem weights (c : Dev nD) : ∀ (n : ℕ) (hn : n < cfg0.N), Weights m c (outsAt0 m c n hn).2.1 (outsAt0 m c n hn).2.2.1 (outsAt0 m c n hn).2.2.2.1 (outsAt0 m c n hn).2.2.2.2.1 (outsAt0 m c n hn).2.2.2.2.2.1
  | 0, hn => weights_first m c ⟨0, hn⟩ rfl rfl
  | n + 1, hn => by
    have hN := lt_of_lt_of_eq hn (show cfg0.N = 16 from N_0)
    have ih := weights c n (by omega)
    obtain ⟨e1, e2, e3, e4, e5⟩ := weights_carried m c ⟨n + 1, hn⟩ (by show ¬(n + 1) % 16 = 0; omega)
    rw [e1, e2, e3, e4, e5]
    exact ih

/-! ## The projections of a block -/

theorem blkProj_k (c : Dev nD) (t : Fin cfg0.N) (w : Vec Ideal S768x768 .bf16)
    (hw : ∀ d e : Fin 768, w (ix2 d e) = m (c.tc.loc main_arg1) (ix2 d e)) (r : Fin 256) (d : Fin 768) :
    blkProj (iblk m c 0 t) w (iblk m c 5 t) r d = kOf m c (batch t) (blkRow (step t) r) d := by
  unfold blkProj
  simp only [blk0_apply, blk5_apply, hw]
  rfl

theorem blkProj_q (c : Dev nD) (t : Fin cfg0.N) (w : Vec Ideal S768x768 .bf16)
    (hw : ∀ d e : Fin 768, w (ix2 d e) = m (c.tc.loc main_arg3) (ix2 d e)) (r : Fin 256) (d : Fin 768) :
    blkProj (iblk m c 0 t) w (iblk m c 6 t) r d = qOf m c (batch t) (blkRow (step t) r) d := by
  unfold blkProj
  simp only [blk0_apply, blk6_apply, hw]
  rfl

theorem blkProj_v (c : Dev nD) (t : Fin cfg0.N) (w : Vec Ideal S768x768 .bf16)
    (hw : ∀ d e : Fin 768, w (ix2 d e) = m (c.tc.loc main_arg5) (ix2 d e)) (r : Fin 256) (d : Fin 768) :
    blkProj (iblk m c 0 t) w (iblk m c 7 t) r d = vOf m c (batch t) (blkRow (step t) r) d := by
  unfold blkProj
  simp only [blk0_apply, blk7_apply, hw]
  rfl

/-! ## The two tables -/

/-- The eight rows written at a point are the projected first rows of the eight groups of its block. -/
theorem qs_hit (c : Dev nD) (t : Fin cfg0.N) (g : Fin 64) (h : 8 * (t.val % 8) ≤ g.val) (h' : g.val < 8 * (t.val % 8 + 1))
    (e : Fin 768) : (outsAt0 m c t.val t.isLt).2.2.2.2.2.2.1 (ix2 g e) = qOf m c (batch t) (grpRow g) e := by
  have key := (pay16_apply (iblk m c 0 t) (outsAt0 m c t.val t.isLt).2.2.1 (iblk m c 6 t) ⟨g.val - 8 * (t.val % 8), by omega⟩ e).trans
    (blkProj_q m c t _ (weights m c t.val t.isLt).q _ e)
  have hrow : blkRow (step t) ⟨(g.val - 8 * (t.val % 8)) * 32, by omega⟩ = grpRow g :=
    Fin.ext (by show 256 * (t.val % 8) + (g.val - 8 * (t.val % 8)) * 32 = 32 * g.val; omega)
  rw [hrow] at key
  have hx0 : g.val = 8 * (t.val % 8) + (g.val - 8 * (t.val % 8)) := by omega
  rw [← key]
  by_cases h0 : t.val % 16 = 0
  · exact qs_hit_A m c t h0 (by omega) _ _ hx0 rfl
  · by_cases h1 : t.val % 8 = 0
    · exact qs_hit_C m c t h0 h1 _ _ hx0 rfl
    · exact qs_hit_B m c t h0 h1 _ _ hx0 rfl

/-- After point `n` the table holds the rows of the groups of its batch up to the end of its block. -/
theorem qs_table (c : Dev nD) : ∀ (n : ℕ) (hn : n < cfg0.N) (g : Fin 64), g.val < 8 * (n % 8 + 1) → ∀ e : Fin 768,
    (outsAt0 m c n hn).2.2.2.2.2.2.1 (ix2 g e) = qOf m c (batch ⟨n, hn⟩) (grpRow g) e
  | 0, hn, g, hg, e => qs_hit m c ⟨0, hn⟩ g (Nat.zero_le _) hg e
  | n + 1, hn, g, hg, e => by
    by_cases h : 8 * ((n + 1) % 8) ≤ g.val
    · exact qs_hit m c ⟨n + 1, hn⟩ g h hg e
    · have h1 : ¬(n + 1) % 8 = 0 := by omega
      have h0 : ¬(n + 1) % 16 = 0 := by omega
      have hb : batch ⟨n + 1, hn⟩ = batch ⟨n, by omega⟩ := Fin.ext (by show (n + 1) / 8 = n / 8; omega)
      rw [hb]
      exact (qs_miss_B m c ⟨n + 1, hn⟩ h0 h1 (ix2 g e) (by show g.val < 8 * ((n + 1) % 8); omega)).trans
        (qs_table c n (by omega) g (by omega) e)

/-- The eight rows written at a point are the projected first rows of the eight groups of its block. -/
theorem vs_hit (c : Dev nD) (t : Fin cfg0.N) (g : Fin 64) (h : 8 * (t.val % 8) ≤ g.val) (h' : g.val < 8 * (t.val % 8 + 1))
    (e : Fin 768) : (outsAt0 m c t.val t.isLt).2.2.2.2.2.2.2 (ix2 g e) = vOf m c (batch t) (grpRow g) e := by
  have key := (pay17_apply (iblk m c 0 t) (outsAt0 m c t.val t.isLt).2.2.2.1 (iblk m c 7 t) ⟨g.val - 8 * (t.val % 8), by omega⟩ e).trans
    (blkProj_v m c t _ (weights m c t.val t.isLt).v _ e)
  have hrow : blkRow (step t) ⟨(g.val - 8 * (t.val % 8)) * 32, by omega⟩ = grpRow g :=
    Fin.ext (by show 256 * (t.val % 8) + (g.val - 8 * (t.val % 8)) * 32 = 32 * g.val; omega)
  rw [hrow] at key
  have hx0 : g.val = 8 * (t.val % 8) + (g.val - 8 * (t.val % 8)) := by omega
  rw [← key]
  by_cases h0 : t.val % 16 = 0
  · exact vs_hit_A m c t h0 (by omega) _ _ hx0 rfl
  · by_cases h1 : t.val % 8 = 0
    · exact vs_hit_C m c t h0 h1 _ _ hx0 rfl
    · exact vs_hit_B m c t h0 h1 _ _ hx0 rfl

/-- After point `n` the table holds the rows of the groups of its batch up to the end of its block. -/
theorem vs_table (c : Dev nD) : ∀ (n : ℕ) (hn : n < cfg0.N) (g : Fin 64), g.val < 8 * (n % 8 + 1) → ∀ e : Fin 768,
    (outsAt0 m c n hn).2.2.2.2.2.2.2 (ix2 g e) = vOf m c (batch ⟨n, hn⟩) (grpRow g) e
  | 0, hn, g, hg, e => vs_hit m c ⟨0, hn⟩ g (Nat.zero_le _) hg e
  | n + 1, hn, g, hg, e => by
    by_cases h : 8 * ((n + 1) % 8) ≤ g.val
    · exact vs_hit m c ⟨n + 1, hn⟩ g h hg e
    · have h1 : ¬(n + 1) % 8 = 0 := by omega
      have h0 : ¬(n + 1) % 16 = 0 := by omega
      have hb : batch ⟨n + 1, hn⟩ = batch ⟨n, by omega⟩ := Fin.ext (by show (n + 1) / 8 = n / 8; omega)
      rw [hb]
      exact (vs_miss_B m c ⟨n + 1, hn⟩ h0 h1 (ix2 g e) (by show g.val < 8 * ((n + 1) % 8); omega)).trans
        (vs_table c n (by omega) g (by omega) e)

/-! ## What a point writes, and the result -/

/-- The block a point writes is a function of its blocks and of what it leaves in its scratch. -/
theorem out_open (c : Dev nD) (t : Fin cfg0.N) :
    (outsAt0 m c t.val t.isLt).1 = bodyOut m c t (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2.1 (outsAt0 m c t.val t.isLt).2.2.2.2.2.2.1
      (outsAt0 m c t.val t.isLt).2.2.2.2.2.2.2 := by
  by_cases h0 : t.val % 16 = 0
  · exact out_A m c t h0 (by omega)
  · by_cases h1 : t.val % 8 = 0
    · exact out_C m c t h0 h1
    · exact out_B m c t h0 h1

/-- The mathematics of the whole kernel at an index, over the arguments. -/
abbrev attnAt (c : Dev nD) (b : Fin 2) (t : Fin 2048) (o : Fin 768) : EReal :=
  outAt (head1 (kOf m c b) (qOf m c b) (vOf m c b) t) (head2 (kOf m c b) (qOf m c b) (vOf m c b) t)
    (fun d => m (c.tc.loc main_arg7) (ix2 o ⟨d.val, by omega⟩))
    (fun d => m (c.tc.loc main_arg7) (ix2 o ⟨768 + d.val, by omega⟩)) (m (c.tc.loc main_arg8) (ix1 o))

theorem out_apply (c : Dev nD) (t : Fin cfg0.N) (z : Fin 1) (r : Fin 256) (o : Fin 768) :
    (outsAt0 m c t.val t.isLt).1 (ix3 z r o) = attnAt m c (batch t) (blkRow (step t) r) o := by
  have hw := weights m c t.val t.isLt
  rw [out_open m c t]
  unfold bodyOut
  rw [coord1 t]
  refine (body_apply (step t) _ _ _ _ _ _ _ _ _ _ _ _ (kOf m c (batch t)) (qOf m c (batch t)) (vOf m c (batch t))
    (blkProj_k m c t _ hw.k) (blkProj_q m c t _ hw.q) (blkProj_v m c t _ hw.v)
    (qs_table m c t.val t.isLt) (vs_table m c t.val t.isLt) z r o).trans ?_
  simp only [hw.u1, hw.u2, blk8_apply]

/-- THE KERNEL'S RESULT AT AN INDEX. -/
theorem result_apply (c : Dev nD) (b : Fin 2) (t : Fin 2048) (o : Fin 768) :
    Cert.KernelIdeal.Value.G9 m c (ix3 b t o) = attnAt m c b t o := by
  have hp : Cert.KernelIdeal.Value.pt9Of (ix3 b t o) = 8 * b.val + t.val / 256 := by
    show 8 * (b.val / 1 - 0) + 1 * (t.val / 256 - 0) + 1 * (o.val / 768 - 0) = _
    omega
  have hlt : 8 * b.val + t.val / 256 < cfg0.N := by rw [show cfg0.N = 16 from N_0]; omega
  have hl : Cert.KernelIdeal.Value.loc9Of (ix3 b t o) = ix3 (0 : Fin 1) (⟨t.val % 256, by omega⟩ : Fin 256) o := by
    funext a; apply Fin.ext
    match a with
    | ⟨0, _⟩ => show b.val % 1 = 0; omega
    | ⟨1, _⟩ => rfl
    | ⟨2, _⟩ => show o.val % 768 = o.val; omega
  unfold Cert.KernelIdeal.Value.G9
  rw [dif_pos (by rw [hp]; exact hlt), hl, Cert.KernelIdeal.Value.fold0_congr m c _ _ _ (by rw [Nat.zero_add]; exact hlt) hp,
    ← Cert.KernelIdeal.Value.outsAt0_sweep m c _ hlt]
  have hb : batch ⟨8 * b.val + t.val / 256, hlt⟩ = b := Fin.ext (by show (8 * b.val + t.val / 256) / 8 = b.val; omega)
  have hr : blkRow (step ⟨8 * b.val + t.val / 256, hlt⟩) ⟨t.val % 256, by omega⟩ = t :=
    Fin.ext (by show 256 * ((8 * b.val + t.val / 256) % 8) + t.val % 256 = t.val; omega)
  refine (out_apply m c ⟨_, hlt⟩ 0 ⟨t.val % 256, by omega⟩ o).trans ?_
  rw [hb, hr]

end Cert.KernelIdeal.Hand

end
-- ==== Proof.Agree.lean ====
/- The two results side by side: on memories that agree on the arguments, the reference's result and the kernel's are the
   same mathematics at every index. -/
module

public import proofs.«01_k».proof.Proof.RefRead
public import proofs.«01_k».proof.Proof.Sweep

@[expose] public section

set_option maxRecDepth 16384

noncomputable section

namespace Cert.Attn

open Idealize.ShloMosaic Idealize.SL.Sem

/-- THE TWO RESULTS ARE EQUAL. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Value.res_out0 (F := Ideal) m' c = Cert.KernelIdeal.Value.G9 (F := Ideal) m c := by
  obtain ⟨h0, h1, h2, h3, h4, h5, h6, h7, h8⟩ := h
  funext j
  obtain ⟨b, t, o, rfl⟩ : ∃ (b : Fin 2) (t : Fin 2048) (o : Fin 768), j = ix3 b t o :=
    ⟨j (0 : Fin 3), j (1 : Fin 3), j (2 : Fin 3), eq_ix3 j⟩
  refine (Cert.ReferenceIdeal.Hand.ref_apply m' c b t o).trans
    (Eq.trans ?_ (Cert.KernelIdeal.Hand.result_apply m c b t o).symm)
  unfold Cert.ReferenceIdeal.Hand.kAt Cert.ReferenceIdeal.Hand.qAt Cert.ReferenceIdeal.Hand.vAt
  rw [h0, h1, h2, h3, h4, h5, h6, h7, h8]

end Cert.Attn

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Agree

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  exact Cert.Attn.results_agree m m' c (hagree c)

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
